-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_without_bias [hPre_finite_without_bias : Cert.Pre_finite_without_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_without_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_without_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_without_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_without_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_without_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_without_bias [hPre_finite_without_bias : Cert.Pre_finite_without_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_without_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_without_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_without_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_without_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_without_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_without_bias [hKernelIdeal : Cert.KernelIdeal.Facts] [hPre_finite_without_bias : Cert.Pre_finite_without_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_without_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_without_bias [hReferenceIdeal : Cert.ReferenceIdeal.Facts] [hPre_finite_without_bias : Cert.Pre_finite_without_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_without_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_without_bias [hKernelIdeal : Cert.KernelIdeal.Facts] [hReferenceIdeal : Cert.ReferenceIdeal.Facts] [hPre_finite_without_bias : Cert.Pre_finite_without_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_without_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_without_bias : Cert.Pre_finite_without_bias.Facts),
    quiescent_Kernel (hKernel := hKernel)
    ∧ quiescent_KernelIdeal (hKernelIdeal := hKernelIdeal)
    ∧ quiescent_KernelIdeal_pre_finite_without_bias (hKernelIdeal := hKernelIdeal) (hPre_finite_without_bias := hPre_finite_without_bias)
    ∧ quiescent_ReferenceIdeal (hReferenceIdeal := hReferenceIdeal)
    ∧ quiescent_ReferenceIdeal_pre_finite_without_bias (hReferenceIdeal := hReferenceIdeal) (hPre_finite_without_bias := hPre_finite_without_bias)
    ∧ preserves_Kernel_KernelIdeal
    ∧ algebraic_KernelIdeal_ReferenceIdeal_pre_finite_without_bias (hKernelIdeal := hKernelIdeal) (hReferenceIdeal := hReferenceIdeal) (hPre_finite_without_bias := hPre_finite_without_bias)
-- ==== Pre_finite_without_bias.lean ====
abbrev S4096x1024 : Shape := ⟨2, ![4096, 1024]⟩
abbrev S8x1024x1024 : Shape := ⟨3, ![8, 1024, 1024]⟩
abbrev S8x1024 : Shape := ⟨2, ![8, 1024]⟩
abbrev S1024x8 : Shape := ⟨2, ![1024, 8]⟩
abbrev S8 : Shape := ⟨1, ![8]⟩
abbrev S_ : Shape := ⟨0, ![]⟩

class Facts : Prop where
  bcast_S_S4096x1024 : S_.BroadcastsInDim S4096x1024 (![] : Fin 0 → Fin S4096x1024.rank)
  bcast_S_S8x1024x1024 : S_.BroadcastsInDim S8x1024x1024 (![] : Fin 0 → Fin S8x1024x1024.rank)
  bcast_S_S8x1024 : S_.BroadcastsInDim S8x1024 (![] : Fin 0 → Fin S8x1024.rank)
  bcast_S_S1024x8 : S_.BroadcastsInDim S1024x8 (![] : Fin 0 → Fin S1024x8.rank)
  bcast_S_S8 : S_.BroadcastsInDim S8 (![] : Fin 0 → Fin S8.rank)

variable [Facts]

def fn {F : FTy → Type} [FloatOps F] (main_arg0 : FVec F S4096x1024 .f32) (main_arg1 : FVec F S8x1024x1024 .f32) (main_arg2 : FVec F S8x1024 .f32) (main_arg3 : FVec F S1024x8 .f32) (main_arg4 : FVec F S8 .f32) : IVec S4096x1024 1 × IVec S8x1024x1024 1 × IVec S8x1024 1 × IVec S1024x8 1 × IVec S8 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S8x1024x1024 .f32 := Host.absf main_arg1
  let main_cst_0 : FVec F S_ .f32 := constant S_ .f32 0x7F800000#32
  let main_v4 : FVec F S8x1024x1024 .f32 := broadcastInDim S8x1024x1024 ![] bcast_S_S8x1024x1024 main_cst_0
  let main_v5 : IVec S8x1024x1024 1 := cmpf .olt main_v3 main_v4
  let main_cst_1 : FVec F S_ .f32 := constant S_ .f32 0x00000000#32
  let main_v6 : FVec F S8x1024 .f32 := broadcastInDim S8x1024 ![] bcast_S_S8x1024 main_cst_1
  let main_v7 : IVec S8x1024 1 := cmpf .oeq main_arg2 main_v6
  let main_v8 : FVec F S1024x8 .f32 := Host.absf main_arg3
  let main_cst_2 : FVec F S_ .f32 := constant S_ .f32 0x7F800000#32
  let main_v9 : FVec F S1024x8 .f32 := broadcastInDim S1024x8 ![] bcast_S_S1024x8 main_cst_2
  let main_v10 : IVec S1024x8 1 := cmpf .olt main_v8 main_v9
  let main_cst_3 : FVec F S_ .f32 := constant S_ .f32 0x00000000#32
  let main_v11 : FVec F S8 .f32 := broadcastInDim S8 ![] bcast_S_S8 main_cst_3
  let main_v12 : IVec S8 1 := cmpf .oeq main_arg4 main_v11
  (main_v2, main_v5, main_v7, main_v10, main_v12)
-- ==== Kernel.lean ====
abbrev S4096x1024 : Shape := ⟨2, ![4096, 1024]⟩
abbrev S8x1024x1024 : Shape := ⟨3, ![8, 1024, 1024]⟩
abbrev S8x1024 : Shape := ⟨2, ![8, 1024]⟩
abbrev S1024x8 : Shape := ⟨2, ![1024, 8]⟩
abbrev S8 : Shape := ⟨1, ![8]⟩
abbrev S512x1024 : Shape := ⟨2, ![512, 1024]⟩
abbrev S512x8 : Shape := ⟨2, ![512, 8]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x64 : Shape := ⟨2, ![512, 64]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S8x1024x1024, .f32⟩
  | .hbm, ⟨2, _⟩ => ⟨S8x1024, .f32⟩
  | .hbm, ⟨3, _⟩ => ⟨S1024x8, .f32⟩
  | .hbm, ⟨4, _⟩ => ⟨S8, .f32⟩
  | .hbm, ⟨5, _⟩ => ⟨S1024x8, .bf16⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S8x1024x1024, .f32⟩
  | .local _ .vmem, ⟨3, _⟩ => ⟨S1024x8, .bf16⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x1024 : Shape := ⟨2, ![4096, 1024]⟩
abbrev S8x1024x1024 : Shape := ⟨3, ![8, 1024, 1024]⟩
abbrev S8x1024 : Shape := ⟨2, ![8, 1024]⟩
abbrev S1024x8 : Shape := ⟨2, ![1024, 8]⟩
abbrev S8 : Shape := ⟨1, ![8]⟩
abbrev S4096x8 : Shape := ⟨2, ![4096, 8]⟩
abbrev S1x8 : Shape := ⟨2, ![1, 8]⟩
abbrev S_ : Shape := ⟨0, ![]⟩
abbrev S4096 : Shape := ⟨1, ![4096]⟩
abbrev S4096x1 : Shape := ⟨2, ![4096, 1]⟩
abbrev S4096x8x1024 : Shape := ⟨3, ![4096, 8, 1024]⟩
abbrev S1x8x1024 : Shape := ⟨3, ![1, 8, 1024]⟩
abbrev S4096x8x1 : Shape := ⟨3, ![4096, 8, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x1024x1024, .f32⟩
  | .hbm, ⟨2, _⟩ => ⟨S8x1024, .f32⟩
  | .hbm, ⟨3, _⟩ => ⟨S1024x8, .f32⟩
  | .hbm, ⟨4, _⟩ => ⟨S8, .f32⟩
  | .hbm, ⟨5, _⟩ => ⟨S4096x8, .f32⟩
  | .hbm, ⟨6, _⟩ => ⟨S1x8, .f32⟩
  | .hbm, ⟨7, _⟩ => ⟨S4096x8, .f32⟩
  | .hbm, ⟨8, _⟩ => ⟨S4096x8, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x8, .f32⟩
  | .hbm, ⟨22, _⟩ => ⟨S4096x8, .f32⟩
  | .hbm, ⟨23, _⟩ => ⟨S4096x8x1024, .f32⟩
  | .hbm, ⟨24, _⟩ => ⟨S1x8x1024, .f32⟩
  | .hbm, ⟨25, _⟩ => ⟨S4096x8x1024, .f32⟩
  | .hbm, ⟨26, _⟩ => ⟨S4096x8x1024, .f32⟩
  | .hbm, ⟨27, _⟩ => ⟨S_, .f32⟩
  | .hbm, ⟨28, _⟩ => ⟨S4096x8x1024, .f32⟩
  | .hbm, ⟨29, _⟩ => ⟨S4096x8x1024, .f32⟩
  | .hbm, ⟨30, _⟩ => ⟨S_, .f32⟩
  | .hbm, ⟨31, _⟩ => ⟨S4096x8, .f32⟩
  | .hbm, ⟨32, _⟩ => ⟨S_, .f32⟩
  | .hbm, ⟨33, _⟩ => ⟨S4096x8, .f32⟩
  | .hbm, ⟨34, _⟩ => ⟨S4096x8, .f32⟩
  | .hbm, ⟨35, _⟩ => ⟨S4096x8x1, .f32⟩
  | .hbm, ⟨36, _⟩ => ⟨S4096x8x1024, .f32⟩
  | .hbm, ⟨37, _⟩ => ⟨S4096x8x1024, .f32⟩
  | .hbm, ⟨38, _⟩ => ⟨S4096x8x1024, .f32⟩
  | .hbm, ⟨39, _⟩ => ⟨S_, .f32⟩
  | .hbm, ⟨40, _⟩ => ⟨S4096x8, .f32⟩
  | .hbm, ⟨41, _⟩ => ⟨S4096x8x1, .f32⟩
  | .hbm, ⟨42, _⟩ => ⟨S4096x8x1024, .f32⟩
  | .hbm, ⟨43, _⟩ => ⟨S4096x8x1024, .f32⟩
  | .hbm, ⟨44, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.Moe.Body.lean ====
/- What one grid point of the kernel leaves in its output block, said once for all eight experts and all four
   column quarters: the body's stores are the same four families of vectors, `blockOut` of the quarter. -/
module

public import proofs.«01_k».proof.Proof.Gen.KernelIdeal.Frame

@[expose] public section

noncomputable section

namespace Cert.KernelIdeal.Moe

open Cert.KernelIdeal Cert.KernelIdeal.Gen Idealize.ShloMosaic

variable {F : FTy → Type} [FloatOps F]

/-- The exponentials of one quarter of one expert's hidden row: `max (exp (x · w)) 1`, 512 rows by 256 columns. -/
def quarter (x : FVec F S512x1024 .bf16) (w : Vec F S1x1024x256 .f32) : FVec F S512x256 .bf16 :=
  maximumf
    (exp (truncf .bf16
      (matmul dot_S512x1024_S1024x256_S512x256_1_0_0_1_n_n none x
        (truncf .bf16 (shapeCast S1024x256 w shapeCasts_S1x1024x256_S1024x256) bitsLt_bf16_f32)
        (constant S512x256 .f32 0x00000000#32))
      bitsLt_bf16_f32))
    (broadcast S512x256 (Scalar.ofBits .bf16 0x3F80#16))

/-- The row sums of a quarter: its four groups of 64 columns are added first, then the 64 lanes. -/
def quarterSum (p : FVec F S512x256 .bf16) : FVec F S512x1 .f32 :=
  shapeCast S512x1
    (multiReduction .add [1] S512
      (extf .f32
        (addf
          (addf (extractStridedSlice S512x64 ![0, 0] p slices_S512x256_o0_0_S512x64)
            (extractStridedSlice S512x64 ![0, 64] p slices_S512x256_o0_64_S512x64))
          (addf (extractStridedSlice S512x64 ![0, 128] p slices_S512x256_o0_128_S512x64)
            (extractStridedSlice S512x64 ![0, 192] p slices_S512x256_o0_192_S512x64)))
        bitsLt_bf16_f32)
      0x00000000#32 reduces_S512x64_S512 (.inl rfl) rfl)
    shapeCasts_S512_S512x1

/-- The factor of one expert's row: its gate divided by the sum of the row's four quarters. -/
def factor (g : FVec F S512x1 .f32) (p : Fin 4 → FVec F S512x256 .bf16) : FVec F S512x1 .bf16 :=
  truncf .bf16
    (divf g (addf (addf (addf (quarterSum (p 0)) (quarterSum (p 1))) (quarterSum (p 2))) (quarterSum (p 3))))
    bitsLt_bf16_f32

/-- A quarter scaled row by row. -/
def scaled (c : FVec F S512x1 .bf16) (p : FVec F S512x256 .bf16) : FVec F S512x256 .bf16 :=
  mulf (broadcastTo S512x256 c broadcasts_S512x1_S512x256) p

/-- The rectangle of the weights that holds quarter `h` of expert `e`. -/
abbrev wRect (e : Fin 8) (h : Fin 4) : Rect S8x1024x1024 :=
  Rect.unit (s := S8x1024x1024) ![e.val, 0, 256 * h.val] S1x1024x256.size (by revert e h; decide)

/-- Column `e` of the gate lies within the gate. -/
theorem gateSlices (e : Fin 8) : S512x8.Slices ![0, e.val] S512x1 := by revert e; decide

section
variable (x0 : Vec F S512x1024 .f32) (x1 : Vec F S8x1024x1024 .f32) (x2 : Vec F S1024x8 .bf16)

/-- The block's rows, read whole. -/
def rows : FVec F S512x1024 .bf16 := k0_pay1 (View.ld x0 r0_0)

/-- The block's gate: the softmax of the gate logits over the eight experts. -/
def gate : FVec F S512x8 .f32 := k0_pay2 (View.ld x0 r0_0) (View.ld x2 r0_1)

/-- Quarter `h` of expert `e`. -/
def part (e : Fin 8) (h : Fin 4) : FVec F S512x256 .bf16 := quarter (rows x0) (View.ld x1 (wRect e h))

/-- Expert `e`'s contribution to quarter `h` of the output block. -/
def contrib (e : Fin 8) (h : Fin 4) : FVec F S512x256 .bf16 :=
  scaled (factor (extractStridedSlice S512x1 ![0, e.val] (gate x0 x2) (gateSlices e)) (part x0 x1 e)) (part x0 x1 e h)

/-- Quarter `h` of the output block: the eight contributions, added in the experts' order. -/
def blockOut (h : Fin 4) : FVec F S512x256 .f32 :=
  extf .f32
    (addf (addf (addf (addf (addf (addf (addf (contrib x0 x1 x2 0 h) (contrib x0 x1 x2 1 h)) (contrib x0 x1 x2 2 h))
      (contrib x0 x1 x2 3 h)) (contrib x0 x1 x2 4 h)) (contrib x0 x1 x2 5 h)) (contrib x0 x1 x2 6 h)) (contrib x0 x1 x2 7 h))
    bitsLt_bf16_f32

/-- The output block of one grid point is its four quarters, side by side. -/
theorem out_eq : out0_3 x0 x1 x2
    = View.canon [⟨r0_37, blockOut x0 x1 x2 3⟩, ⟨r0_36, blockOut x0 x1 x2 2⟩, ⟨r0_35, blockOut x0 x1 x2 1⟩,
        ⟨r0_34, blockOut x0 x1 x2 0⟩] := by
  rfl

end

end Cert.KernelIdeal.Moe

end
-- ==== Proof.Moe.Entry.lean ====
/- The entries of one output block over the extended reals. -/
module

public import proofs.«01_k».proof.Proof.Moe.Body
public import Idealize.ShloMosaic.Lib.Pointwise

@[expose] public section

noncomputable section

namespace Cert.KernelIdeal.Moe

open Cert.KernelIdeal Cert.KernelIdeal.Gen Idealize.ShloMosaic

set_option maxRecDepth 16384

/-- An entry of a quarter: the exponential of the dot product of the row and the column, at least 1. -/
theorem quarter_apply (x : FVec Ideal S512x1024 .bf16) (w : Vec Ideal S1x1024x256 .f32) (i : Fin 512) (j : Fin 256) :
    quarter x w (ix2 i j) = max (Ideal.exp (∑ k : Fin 1024, x (ix2 i k) * w (ix3 0 k j))) 1 := by
  pointwise [quarter]

/-- A quarter's row sum: over the 64 lanes, the four groups' entries added pairwise. -/
theorem quarterSum_apply (p : FVec Ideal S512x256 .bf16) (i : Fin 512) :
    quarterSum p (ix2 i 0) = ∑ j : Fin 64,
      ((p (ix2 i ⟨j.val, by omega⟩) + p (ix2 i ⟨64 + j.val, by omega⟩))
        + (p (ix2 i ⟨128 + j.val, by omega⟩) + p (ix2 i ⟨192 + j.val, by omega⟩))) := by
  pointwise [quarterSum]

/-- A row's factor: its gate over the sum of its four quarter sums. -/
theorem factor_apply (g : FVec Ideal S512x1 .f32) (p : Fin 4 → FVec Ideal S512x256 .bf16) (i : Fin 512) :
    factor g p (ix2 i 0) = Ideal.div (g (ix2 i 0))
      (quarterSum (p 0) (ix2 i 0) + quarterSum (p 1) (ix2 i 0) + quarterSum (p 2) (ix2 i 0) + quarterSum (p 3) (ix2 i 0)) := by
  pointwise [factor]

/-- A scaled quarter's entry: the row's factor times the entry. -/
theorem scaled_apply (c : FVec Ideal S512x1 .bf16) (p : FVec Ideal S512x256 .bf16) (i : Fin 512) (j : Fin 256) :
    scaled c p (ix2 i j) = c (ix2 i 0) * p (ix2 i j) := by
  pointwise [scaled]

/-- The gate of a row and an expert: the exponential of its logit over the eight exponentials' sum. -/
theorem gate_apply (x0 : Vec Ideal S512x1024 .f32) (x2 : Vec Ideal S1024x8 .bf16) (i : Fin 512) (e : Fin 8) :
    gate x0 x2 (ix2 i e) = Ideal.div (Ideal.exp (∑ k : Fin 1024, x0 (ix2 i k) * x2 (ix2 k e)))
      (∑ e' : Fin 8, Ideal.exp (∑ k : Fin 1024, x0 (ix2 i k) * x2 (ix2 k e'))) := by
  unfold gate
  unfold_payloads
  pointwise

/-- Column `e` of a gate, read at a row. -/
theorem gateCol_apply (g : FVec Ideal S512x8 .f32) (e : Fin 8) (i : Fin 512) :
    extractStridedSlice S512x1 ![0, e.val] g (gateSlices e) (ix2 i 0) = g (ix2 i e) := by
  pointwise

/-- An entry of quarter `h` of expert `e`, read from the block's rows and the weights. -/
theorem part_apply (x0 : Vec Ideal S512x1024 .f32) (x1 : Vec Ideal S8x1024x1024 .f32) (e : Fin 8) (h : Fin 4) (i : Fin 512) (j : Fin 256) :
    part x0 x1 e h (ix2 i j) = max (Ideal.exp (∑ k : Fin 1024, x0 (ix2 i k) * x1 (ix3 e k ⟨256 * h.val + j.val, by omega⟩))) 1 := by
  unfold part
  rw [quarter_apply]
  unfold rows
  unfold_payloads
  pointwise

end Cert.KernelIdeal.Moe

end
-- ==== Proof.Moe.Math.lean ====
/- The mathematics of the mixture of experts, over the reals, and the few facts that carry it to the extended reals. -/
module

public import Idealize.ShloMosaic.Lib.Pointwise

@[expose] public section

noncomputable section

namespace Cert.Moe

open Idealize.ShloMosaic

/-- The entry of one output row: the experts' softmax rows, mixed by the softmax of the gate. `L e` is expert `e`'s
    gate logit and `H e f` its hidden entry before the rectifier; `max (exp h) 1` is the exponential of `max h 0`. -/
def mix (L : Fin 8 → ℝ) (H : Fin 8 → Fin 1024 → ℝ) (f : Fin 1024) : ℝ :=
  ∑ e, Real.exp (L e) / (∑ e', Real.exp (L e')) / (∑ f', max (Real.exp (H e f')) 1) * max (Real.exp (H e f)) 1

/-- The exponential of a rectified number is the exponential, at least 1. -/
theorem exp_relu (h : ℝ) : Real.exp (max h 0) = max (Real.exp h) 1 := by
  rw [Real.exp_monotone.map_max, Real.exp_zero]

/-- A softmax does not change when one number is subtracted from every logit. -/
theorem softmax_shift {n : ℕ} (a : Fin n → ℝ) (M : ℝ) (i : Fin n) :
    Real.exp (a i - M) / ∑ k, Real.exp (a k - M) = Real.exp (a i) / ∑ k, Real.exp (a k) := by
  simp only [Real.exp_sub, ← Finset.sum_div]
  exact div_div_div_cancel_right₀ (Real.exp_pos M).ne' _ _

/-- A sum of exponentials over a nonempty index is positive. -/
theorem sum_exp_pos {n : ℕ} (a : Fin (n + 1) → ℝ) : 0 < ∑ k, Real.exp (a k) :=
  Finset.sum_pos (fun _ _ => Real.exp_pos _) Finset.univ_nonempty

/-- So is a sum of exponentials that are kept at least 1. -/
theorem sum_max_pos {n : ℕ} (a : Fin (n + 1) → ℝ) : 0 < ∑ k, max (Real.exp (a k)) 1 :=
  Finset.sum_pos (fun _ _ => lt_max_of_lt_left (Real.exp_pos _)) Finset.univ_nonempty

/-- A sum over 256 columns, with its four groups of 64 added first. -/
theorem sum_groups (p : Fin 256 → ℝ) :
    ∑ j : Fin 64, ((p ⟨j.val, by omega⟩ + p ⟨64 + j.val, by omega⟩) + (p ⟨128 + j.val, by omega⟩ + p ⟨192 + j.val, by omega⟩))
      = ∑ j, p j := by
  rw [Fin.sum_univ_two_halves 128 128 rfl p, Fin.sum_univ_two_halves 64 64 rfl, Fin.sum_univ_two_halves 64 64 rfl]
  simp only [Finset.sum_add_distrib, ← Nat.add_assoc, Nat.reduceAdd]

/-- A sum over 1024 columns, quarter by quarter. -/
theorem sum_quarters (p : Fin 1024 → ℝ) :
    ∑ j : Fin 256, p ⟨j.val, by omega⟩ + ∑ j : Fin 256, p ⟨256 + j.val, by omega⟩ + ∑ j : Fin 256, p ⟨512 + j.val, by omega⟩
      + ∑ j : Fin 256, p ⟨768 + j.val, by omega⟩ = ∑ j, p j := by
  rw [Fin.sum_univ_two_halves 512 512 rfl p, Fin.sum_univ_two_halves 256 256 rfl, Fin.sum_univ_two_halves 256 256 rfl]
  simp only [← Nat.add_assoc, Nat.reduceAdd, add_assoc]

/-! ## Reals among the extended reals -/

/-- A finite sum of reals is a real. -/
theorem coe_sum {n : ℕ} (f : Fin n → ℝ) : ∑ k, (f k : EReal) = ((∑ k, f k : ℝ) : EReal) := by
  induction n with
  | zero => simp
  | succ n ih => rw [Fin.sum_univ_castSucc, Fin.sum_univ_castSucc, ih, EReal.coe_add]

/-- The larger of two reals is a real. -/
theorem coe_max (a b : ℝ) : max (a : EReal) (b : EReal) = ((max a b : ℝ) : EReal) :=
  (EReal.coe_strictMono.monotone.map_max).symm

/-- A quotient of reals is a real, the divisor not being zero. -/
theorem coe_div (a : ℝ) {b : ℝ} (hb : b ≠ 0) : Ideal.div (a : EReal) (b : EReal) = ((a / b : ℝ) : EReal) := by
  rw [Ideal.div_coe hb, ← EReal.coe_mul, mul_one_div]

/-- The largest of finitely many reals, at least one, is a real. -/
theorem fold_max_real {n : ℕ} (f : Fin (n + 1) → ℝ) :
    ∃ M : ℝ, (Finset.univ : Finset (Fin (n + 1))).fold max (⊥ : EReal) (fun k => (f k : EReal)) = (M : EReal) := by
  have hb : (⊥ : EReal) < (Finset.univ : Finset (Fin (n + 1))).fold max (⊥ : EReal) (fun k => (f k : EReal)) :=
    (Finset.lt_fold_max _).2 (Or.inr ⟨0, Finset.mem_univ _, EReal.bot_lt_coe (f 0)⟩)
  have ht : (Finset.univ : Finset (Fin (n + 1))).fold max (⊥ : EReal) (fun k => (f k : EReal)) < ⊤ :=
    (Finset.fold_max_lt _).2 ⟨bot_lt_top, fun k _ => EReal.coe_lt_top (f k)⟩
  exact ⟨_, (EReal.coe_toReal ht.ne hb.ne').symm⟩

/-- A dot product of reals is a real. -/
theorem coe_dot {n : ℕ} {x y : Fin n → EReal} {a b : Fin n → ℝ} (hx : ∀ k, x k = a k) (hy : ∀ k, y k = b k) :
    ∑ k, x k * y k = ((∑ k, a k * b k : ℝ) : EReal) := by
  rw [← coe_sum]
  exact Finset.sum_congr rfl fun k _ => by rw [hx, hy, EReal.coe_mul]

/-- One row of the result from a row of inputs, the experts' weights and the gate's weights. -/
def row (x : Fin 1024 → ℝ) (w : Fin 8 → Fin 1024 → Fin 1024 → ℝ) (g : Fin 1024 → Fin 8 → ℝ) : Fin 1024 → ℝ :=
  mix (fun e => ∑ k, x k * g k e) (fun e f => ∑ k, x k * w e k f)

end Cert.Moe

end
-- ==== Proof.Moe.Block.lean ====
/- One output block as the mixture of experts of its rows, the operands being reals. -/
module

public import proofs.«01_k».proof.Proof.Moe.Entry
public import proofs.«01_k».proof.Proof.Moe.Math

@[expose] public section

noncomputable section

namespace Cert.KernelIdeal.Moe

open Cert.KernelIdeal Cert.KernelIdeal.Gen Cert.Moe Idealize.ShloMosaic

set_option maxRecDepth 16384

section
variable {x0 : Vec Ideal S512x1024 .f32} {x1 : Vec Ideal S8x1024x1024 .f32} {x2 : Vec Ideal S1024x8 .bf16} {i : Fin 512}
  {x : Fin 1024 → ℝ} {w : Fin 8 → Fin 1024 → Fin 1024 → ℝ} {g : Fin 1024 → Fin 8 → ℝ}

/-- The gate of a real row is the softmax of its logits. -/
theorem gate_real (h0 : ∀ k, x0 (ix2 i k) = (x k : EReal)) (h2 : ∀ k e, x2 (ix2 k e) = (g k e : EReal)) (e : Fin 8) :
    gate x0 x2 (ix2 i e)
      = ((Real.exp (∑ k, x k * g k e) / ∑ e', Real.exp (∑ k, x k * g k e') : ℝ) : EReal) := by
  rw [gate_apply]
  simp only [fun e => coe_dot h0 (fun k => h2 k e), Ideal.exp_coe, coe_sum]
  exact coe_div _ (sum_exp_pos _).ne'

/-- An entry of a quarter of a real row. -/
theorem part_real (h0 : ∀ k, x0 (ix2 i k) = (x k : EReal)) (h1 : ∀ e k f, x1 (ix3 e k f) = (w e k f : EReal)) (e : Fin 8)
    (h : Fin 4) (j : Fin 256) :
    part x0 x1 e h (ix2 i j)
      = ((max (Real.exp (∑ k, x k * w e k ⟨256 * h.val + j.val, by omega⟩)) 1 : ℝ) : EReal) := by
  rw [part_apply, coe_dot h0 (fun k => h1 e k _), Ideal.exp_coe, ← EReal.coe_one, coe_max]

/-- The row sum of a quarter with real entries is the sum of the 256 entries. -/
theorem quarterSum_real {p : FVec Ideal S512x256 .bf16} {a : Fin 256 → ℝ} (hp : ∀ j, p (ix2 i j) = (a j : EReal)) :
    quarterSum p (ix2 i 0) = ((∑ j, a j : ℝ) : EReal) := by
  rw [quarterSum_apply, ← sum_groups, ← coe_sum]
  simp only [hp, EReal.coe_add]

/-- An expert's factor on a real row: its gate over the sum of the row's 1024 entries. -/
theorem factor_real (h0 : ∀ k, x0 (ix2 i k) = (x k : EReal)) (h1 : ∀ e k f, x1 (ix3 e k f) = (w e k f : EReal))
    {q : FVec Ideal S512x1 .f32} {a : ℝ} (hq : q (ix2 i 0) = (a : EReal)) (e : Fin 8) :
    factor q (part x0 x1 e) (ix2 i 0) = ((a / ∑ f, max (Real.exp (∑ k, x k * w e k f)) 1 : ℝ) : EReal) := by
  rw [factor_apply, hq]
  simp only [fun h => quarterSum_real (part_real h0 h1 e h), ← EReal.coe_add]
  rw [← coe_div a (sum_max_pos fun f => ∑ k, x k * w e k f).ne', ← sum_quarters]
  simp

/-- An entry of an expert's contribution on a real row. -/
theorem contrib_real (h0 : ∀ k, x0 (ix2 i k) = (x k : EReal)) (h1 : ∀ e k f, x1 (ix3 e k f) = (w e k f : EReal))
    (h2 : ∀ k e, x2 (ix2 k e) = (g k e : EReal)) (e : Fin 8) (h : Fin 4) (j : Fin 256) :
    contrib x0 x1 x2 e h (ix2 i j)
      = ((Real.exp (∑ k, x k * g k e) / (∑ e', Real.exp (∑ k, x k * g k e')) / (∑ f, max (Real.exp (∑ k, x k * w e k f)) 1)
          * max (Real.exp (∑ k, x k * w e k ⟨256 * h.val + j.val, by omega⟩)) 1 : ℝ) : EReal) := by
  unfold contrib
  rw [scaled_apply, factor_real h0 h1 ((gateCol_apply _ e i).trans (gate_real h0 h2 e)), part_real h0 h1, EReal.coe_mul]

/-- An entry of a quarter of the output block is the sum of the eight contributions. -/
theorem blockOut_apply (h : Fin 4) (j : Fin 256) :
    blockOut x0 x1 x2 h (ix2 i j) = ∑ e, contrib x0 x1 x2 e h (ix2 i j) := by
  rw [Fin.sum_univ_eight]
  rfl

/-- A quarter of the output block, on a real row, holds the mixture of the experts. -/
theorem blockOut_real (h0 : ∀ k, x0 (ix2 i k) = (x k : EReal)) (h1 : ∀ e k f, x1 (ix3 e k f) = (w e k f : EReal))
    (h2 : ∀ k e, x2 (ix2 k e) = (g k e : EReal)) (h : Fin 4) (j : Fin 256) :
    blockOut x0 x1 x2 h (ix2 i j) = (row x w g ⟨256 * h.val + j.val, by omega⟩ : EReal) := by
  simp only [blockOut_apply, contrib_real h0 h1 h2, coe_sum]
  rfl

end

/-- The block whose rows are the mixtures of the rows `x`. -/
def mixBlock (x : Fin 512 → Fin 1024 → ℝ) (w : Fin 8 → Fin 1024 → Fin 1024 → ℝ) (g : Fin 1024 → Fin 8 → ℝ) : Vec Ideal S512x1024 .f32 :=
  fun y => ((row (x (y 0)) w g (y 1) : ℝ) : EReal)

/-- The output block, the operands being reals, holds each row's mixture of the experts. -/
theorem out_real {x0 : Vec Ideal S512x1024 .f32} {x1 : Vec Ideal S8x1024x1024 .f32} {x2 : Vec Ideal S1024x8 .bf16}
    {x : Fin 512 → Fin 1024 → ℝ} {w : Fin 8 → Fin 1024 → Fin 1024 → ℝ} {g : Fin 1024 → Fin 8 → ℝ}
    (h0 : ∀ i k, x0 (ix2 i k) = (x i k : EReal)) (h1 : ∀ e k f, x1 (ix3 e k f) = (w e k f : EReal))
    (h2 : ∀ k e, x2 (ix2 k e) = (g k e : EReal)) (y : S512x1024.Idx) :
    out0_3 x0 x1 x2 y = mixBlock x w g y := by
  have key (h : Fin 4) (off : Fin 2 → ℕ) (inb) (hoff : off = ![0, 256 * h.val]) (j : S512x256.Idx) :
      blockOut x0 x1 x2 h j
        = mixBlock x w g ((Rect.unit (s := S512x1024) off S512x256.size inb).emb j) := by
    subst hoff
    idx_vars j
    rw [blockOut_real (h0 _) h1 h2]
    congr 2
    all_goals
      first
      | (congr 1; apply Fin.ext; simp)
      | (apply Fin.ext; simp)
  rw [out_eq]
  refine View.canon_apply_of_pieces (mixBlock x w g) _ (fun p hp j => ?_) y
    (cover0_3 _ _ _ _ y)
  simp only [List.mem_cons, List.mem_nil_iff, or_false] at hp
  rcases hp with rfl | rfl | rfl | rfl
  · exact key 3 _ (by decide) rfl j
  · exact key 2 _ (by decide) rfl j
  · exact key 1 _ (by decide) rfl j
  · exact key 0 _ (by decide) rfl j

end Cert.KernelIdeal.Moe

end
-- ==== Proof.Moe.Array.lean ====
/- The kernel's result array as the mixture of experts of its argument arrays, the arguments being reals. -/
module

public import proofs.«01_k».proof.Proof.Moe.Block
public import proofs.«01_k».proof.Proof.Gen.KernelIdeal.Value
public import Idealize.ShloMosaic.Lib.Pipeline.ValueKit

@[expose] public section

noncomputable section

namespace Cert.KernelIdeal.Moe

open Cert.KernelIdeal Cert.KernelIdeal.Gen Cert.Moe Idealize.ShloMosaic Idealize.ShloMosaic.TcCoe Idealize.SL.Sem

set_option maxRecDepth 16384

variable (m : (ℓ : Loc nD τ sig) → Buf (Elt Ideal) ℓ) (c : Dev nD)

/-- The array whose rows are the mixtures of the rows `x`. -/
def mixArray (x : Fin 4096 → Fin 1024 → ℝ) (w : Fin 8 → Fin 1024 → Fin 1024 → ℝ) (g : Fin 1024 → Fin 8 → ℝ) : Vec Ideal S4096x1024 .f32 :=
  fun y => ((row (x (y 0)) w g (y 1) : ℝ) : EReal)

/-- Grid point `t` takes row block `t` of the inputs. -/
theorem index0 : ∀ t : Fin grid0.N, win0_0.index t = ![t.val, 0] := by decide +kernel
/-- Every grid point takes all the experts' weights. -/
theorem index1 : ∀ t : Fin grid0.N, win0_1.index t = ![0, 0, 0] := by decide +kernel
/-- Every grid point takes all the gate's weights. -/
theorem index2 : ∀ t : Fin grid0.N, win0_2.index t = ![0, 0] := by decide +kernel
/-- Grid point `t` writes row block `t` of the result. -/
theorem index3 : ∀ t : Fin grid0.N, win0_3.index t = ![t.val, 0] := by decide +kernel

/-- A row of the inputs' block at a grid point is a row of the inputs. -/
theorem block0 (t : Fin grid0.N) (i : Fin 512) (k : Fin 1024) :
    (iblk m c 0 t : Vec Ideal S512x1024 .f32) (ix2 i k)
      = (m ((c : Thread nD τ).loc main_arg0) : Vec Ideal S4096x1024 .f32)
          (ix2 ⟨512 * t.val + i.val, by have := t.isLt; have : grid0.N = 8 := rfl; omega⟩ k) := by
  blk_ext [iblk, V, index0 t]

/-- The experts' weights at a grid point are the argument. -/
theorem block1 (t : Fin grid0.N) (e : Fin 8) (k f : Fin 1024) :
    (iblk m c 1 t : Vec Ideal S8x1024x1024 .f32) (ix3 e k f)
      = (m ((c : Thread nD τ).loc main_arg1) : Vec Ideal S8x1024x1024 .f32) (ix3 e k f) := by
  blk_ext [iblk, V, index1 t]

/-- The gate's weights at a grid point are the argument, its change of type being the identity. -/
theorem block2 (t : Fin grid0.N) (k : Fin 1024) (e : Fin 8) :
    (iblk m c 2 t : Vec Ideal S1024x8 .bf16) (ix2 k e)
      = (m ((c : Thread nD τ).loc main_arg3) : Vec Ideal S1024x8 .f32) (ix2 k e) := by
  blk_simp [iblk, index2 t]
  entry_read
  pointwise
  blk_ext [index2 t]

/-- After the run the result array holds the mixture of the experts. -/
theorem array_real {x : Fin 4096 → Fin 1024 → ℝ} {w : Fin 8 → Fin 1024 → Fin 1024 → ℝ} {g : Fin 1024 → Fin 8 → ℝ}
    (h0 : ∀ r k, (m ((c : Thread nD τ).loc main_arg0) : Vec Ideal S4096x1024 .f32) (ix2 r k) = (x r k : EReal))
    (h1 : ∀ e k f, (m ((c : Thread nD τ).loc main_arg1) : Vec Ideal S8x1024x1024 .f32) (ix3 e k f) = (w e k f : EReal))
    (h2 : ∀ k e, (m ((c : Thread nD τ).loc main_arg3) : Vec Ideal S1024x8 .f32) (ix2 k e) = (g k e : EReal)) :
    (dats m 0 c).arrAt 3 cfg0.N = mixArray x w g := by
  refine (dats m 0 c).arrAt_eq_of_covers 3 _ (by decide +kernel) fun t hf y => ?_
  blk_simp
  rw [after0_3]
  refine (out_real (fun i k => (block0 m c t i k).trans (h0 _ k)) (fun e k f => (block1 m c t e k f).trans (h1 e k f))
    (fun k e => (block2 m c t k e).trans (h2 k e)) y).trans ?_
  unfold mixBlock mixArray
  refine congrArg₂ (fun a b => ((row (x a) w g b : ℝ) : EReal)) (Fin.ext ?_) (Fin.ext ?_)
  · blk_simp [index3 t]
    simp [Nat.mul_comm]
  · blk_simp [index3 t]

end Cert.KernelIdeal.Moe

end
-- ==== Proof.Moe.Reference.lean ====
/- What the reference computes, its operands being reals and its biases zero. -/
module

public import proofs.«01_k».proof.Proof.Gen.ReferenceIdeal.Read
public import proofs.«01_k».proof.Proof.Moe.Math

@[expose] public section

noncomputable section

namespace Cert.ReferenceIdeal.Moe

open Cert.ReferenceIdeal Cert.ReferenceIdeal.Gen Cert.ReferenceIdeal.Read Cert.Moe Idealize.ShloMosaic

set_option maxRecDepth 16384

variable (x0 : Vec Ideal S4096x1024 .f32) (x1 : Vec Ideal S8x1024x1024 .f32) (x2 : Vec Ideal S8x1024 .f32)
  (x3 : Vec Ideal S1024x8 .f32) (x4 : Vec Ideal S8 .f32)

/-- A gate logit: the dot product of a row and a column, and the bias. -/
theorem logit_apply (r : Fin 4096) (e : Fin 8) :
    val_main_v3 x0 x3 x4 (ix2 r e) = ∑ k : Fin 1024, x0 (ix2 r k) * x3 (ix2 k e) + x4 (ix1 e) := by
  pointwise [val_main_v3, val_main_v2, val_main_v1, val_main_v0]

/-- The bit pattern that starts the reference's maxima is minus infinity. -/
theorem negInf_eq : Ideal.ofBits .f32 0xFF800000#32 = ⊥ := by
  simp [Ideal.ofBits, Ideal.ieee]

/-- A softmax as the reference takes it, the row's largest entry subtracted first, at one entry. -/
def softmax {n : ℕ} (y : Fin n → EReal) (k : Fin n) : EReal :=
  Ideal.div (Ideal.exp (y k - max ⊥ (Finset.univ.fold max ⊥ y)))
    (∑ k', Ideal.exp (y k' - max ⊥ (Finset.univ.fold max ⊥ y)))

/-- The softmax of a row of reals, nothing subtracted. -/
theorem softmax_real {n : ℕ} {y : Fin (n + 1) → EReal} {a : Fin (n + 1) → ℝ} (hy : ∀ k, y k = (a k : EReal)) (k : Fin (n + 1)) :
    softmax y k = ((Real.exp (a k) / ∑ k', Real.exp (a k') : ℝ) : EReal) := by
  obtain ⟨M, hM⟩ := fold_max_real a
  rw [← softmax_shift a M k, ← coe_div _ (sum_exp_pos fun k => a k - M).ne']
  simp only [softmax, funext hy, hM, bot_sup_eq, ← EReal.coe_sub, Ideal.exp_coe, coe_sum]

/-- The gate is the softmax of the logits. -/
theorem gate_apply (r : Fin 4096) (e : Fin 8) :
    val_main_v14 x0 x3 x4 (ix2 r e) = softmax (fun e => val_main_v3 x0 x3 x4 (ix2 r e)) e := by
  unfold val_main_v14 val_main_v13 val_main_v12 val_main_v11 val_main_v10 val_main_v9 val_main_v8 val_main_v7 val_main_v6 val_main_v5
    val_main_v4
  generalize val_main_v3 x0 x3 x4 = y
  pointwise [val_main_cst, val_main_cst_0, val_main_cst_1, softmax, negInf_eq]

/-- A hidden entry: the dot product of a row and a column, the bias, and the rectifier. -/
theorem hidden_apply (r : Fin 4096) (e : Fin 8) (f : Fin 1024) :
    val_main_v19 x0 x1 x2 (ix3 r e f) = max (∑ k : Fin 1024, x0 (ix2 r k) * x1 (ix3 e k f) + x2 (ix2 e f)) 0 := by
  pointwise [val_main_v19, val_main_v18, val_main_v17, val_main_v16, val_main_v15, val_main_call0_v0, val_main_call0_cst]

/-- The largest entry of a hidden row. -/
theorem rowMax_apply (r : Fin 4096) (e : Fin 8) :
    val_main_v20 x0 x1 x2 (ix2 r e) = Finset.univ.fold max ⊥ (fun f => val_main_v19 x0 x1 x2 (ix3 r e f)) := by
  unfold val_main_v20
  generalize val_main_v19 x0 x1 x2 = y
  pointwise [val_main_cst_2, negInf_eq]

/-- The exponential of a hidden entry less the row's largest. -/
theorem shifted_apply (r : Fin 4096) (e : Fin 8) (f : Fin 1024) :
    val_main_v26 x0 x1 x2 (ix3 r e f)
      = Ideal.exp (val_main_v19 x0 x1 x2 (ix3 r e f) - max ⊥ (val_main_v20 x0 x1 x2 (ix2 r e))) := by
  rw [val_main_v26_apply, val_main_v25_apply, val_main_v24_apply, val_main_v23_apply, val_main_v22_apply, val_main_v21_apply,
    val_main_cst_3_apply,
    show idx_main_v23 (idx_main_v24 (ix3 r e f)) = ix2 r e from funext fun a => match a with | ⟨0, _⟩ => rfl | ⟨1, _⟩ => rfl]
  simp only [Ideal.hostUnary_exp_def, Ideal.subf_def, Ideal.maximumf_def, Ideal.ofBits_def, negInf_eq]

/-- The sum of a row of exponentials. -/
theorem rowSum_apply (r : Fin 4096) (e : Fin 8) :
    val_main_v27 x0 x1 x2 (ix2 r e) = ∑ f : Fin 1024, val_main_v26 x0 x1 x2 (ix3 r e f) := by
  unfold val_main_v27
  generalize val_main_v26 x0 x1 x2 = y
  pointwise [val_main_cst_4]

/-- An expert's entry: an exponential over its row's sum. -/
theorem quotient_apply (r : Fin 4096) (e : Fin 8) (f : Fin 1024) :
    val_main_v30 x0 x1 x2 (ix3 r e f) = Ideal.div (val_main_v26 x0 x1 x2 (ix3 r e f)) (val_main_v27 x0 x1 x2 (ix2 r e)) := by
  unfold val_main_v30 val_main_v29 val_main_v28
  generalize val_main_v26 x0 x1 x2 = y
  generalize val_main_v27 x0 x1 x2 = z
  pointwise

/-- An expert's entry is the softmax of its hidden row. -/
theorem expert_apply (r : Fin 4096) (e : Fin 8) (f : Fin 1024) :
    val_main_v30 x0 x1 x2 (ix3 r e f) = softmax (fun f => val_main_v19 x0 x1 x2 (ix3 r e f)) f := by
  rw [quotient_apply, rowSum_apply]
  simp only [shifted_apply, rowMax_apply, softmax]

/-- An entry of the result: the experts' entries, weighted by the gate. -/
theorem result_apply (r : Fin 4096) (f : Fin 1024) :
    val_main_v31 x0 x1 x2 x3 x4 (ix2 r f)
      = ∑ e : Fin 8, val_main_v14 x0 x3 x4 (ix2 r e) * val_main_v30 x0 x1 x2 (ix3 r e f) := by
  pointwise [val_main_v31]

/-- The reference's result, its operands being reals and its biases zero, is the mixture of the experts. -/
theorem result_real {x : Fin 4096 → Fin 1024 → ℝ} {w : Fin 8 → Fin 1024 → Fin 1024 → ℝ} {g : Fin 1024 → Fin 8 → ℝ}
    (h0 : ∀ r k, x0 (ix2 r k) = (x r k : EReal)) (h1 : ∀ e k f, x1 (ix3 e k f) = (w e k f : EReal))
    (h2 : ∀ e f, x2 (ix2 e f) = 0) (h3 : ∀ k e, x3 (ix2 k e) = (g k e : EReal)) (h4 : ∀ e, x4 (ix1 e) = 0)
    (r : Fin 4096) (f : Fin 1024) :
    val_main_v31 x0 x1 x2 x3 x4 (ix2 r f) = ((row (x r) w g f : ℝ) : EReal) := by
  have hL (e : Fin 8) : val_main_v3 x0 x3 x4 (ix2 r e) = ((∑ k, x r k * g k e : ℝ) : EReal) := by
    rw [logit_apply, h4, add_zero, coe_dot (h0 r) (fun k => h3 k e)]
  have hH (e : Fin 8) (f : Fin 1024) : val_main_v19 x0 x1 x2 (ix3 r e f) = ((max (∑ k, x r k * w e k f) 0 : ℝ) : EReal) := by
    rw [hidden_apply, h2, add_zero, coe_dot (h0 r) (fun k => h1 e k f), ← EReal.coe_zero, coe_max]
  rw [result_apply]
  simp only [gate_apply, expert_apply, softmax_real hL, softmax_real (hH _), ← EReal.coe_mul, coe_sum, row, mix, exp_relu]
  refine congrArg _ (Finset.sum_congr rfl fun e _ => ?_)
  ring

end Cert.ReferenceIdeal.Moe

end
-- ==== Proof.Moe.Pre.lean ====
/- What the precondition says: the inputs and the weights are reals, the biases are zero. -/
module

public import proofs.«01_k».proof.Pre_finite_without_bias
public import Idealize.ShloMosaic.Lib.Pointwise

@[expose] public section

noncomputable section

namespace Cert.Pre_finite_without_bias.Moe

open Cert.Pre_finite_without_bias Idealize.ShloMosaic

/-- The broadcasts of the precondition are well formed. -/
theorem facts : Cert.Pre_finite_without_bias.Facts where
  bcast_S_S4096x1024 := by decide
  bcast_S_S8x1024x1024 := by decide
  bcast_S_S8x1024 := by decide
  bcast_S_S1024x8 := by decide
  bcast_S_S8 := by decide

/-- An extended real whose absolute value is below infinity is a real. -/
theorem real_of_abs_lt (a : EReal) (h : Ideal.cmp .olt (max a (-a)) (Ideal.ofBits .f32 0x7F800000#32) = 1#1) :
    a = ((a.toReal : ℝ) : EReal) := by
  have hinf : Ideal.ofBits .f32 0x7F800000#32 = ⊤ := by simp [Ideal.ofBits, Ideal.ieee]
  have hlt : max a (-a) < ⊤ := by
    by_contra hn
    simp [Ideal.cmp, hinf, hn] at h
  obtain ⟨h1, h2⟩ := max_lt_iff.1 hlt
  refine (EReal.coe_toReal h1.ne fun hb => ?_).symm
  simp [hb] at h2

/-- An extended real that compares equal to zero is zero. -/
theorem zero_of_eq (a : EReal) (h : Ideal.cmp .oeq a (Ideal.ofBits .f32 0x00000000#32) = 1#1) : a = 0 := by
  by_contra hn
  simp [Ideal.cmp, Ideal.ofBits_zero_f32, hn] at h

variable [Facts] {x0 : FVec Ideal S4096x1024 .f32} {x1 : FVec Ideal S8x1024x1024 .f32} {x2 : FVec Ideal S8x1024 .f32}
  {x3 : FVec Ideal S1024x8 .f32} {x4 : FVec Ideal S8 .f32}

/-- Under the precondition every input is a real. -/
theorem real0 (h : (fn x0 x1 x2 x3 x4).1 = fun _ => 1#1) (i) : x0 i = ((EReal.toReal (x0 i) : ℝ) : EReal) :=
  real_of_abs_lt _ (congrFun h i)

/-- Under the precondition every weight of an expert is a real. -/
theorem real1 (h : (fn x0 x1 x2 x3 x4).2.1 = fun _ => 1#1) (i) : x1 i = ((EReal.toReal (x1 i) : ℝ) : EReal) :=
  real_of_abs_lt _ (congrFun h i)

/-- Under the precondition every expert's bias is zero. -/
theorem zero2 (h : (fn x0 x1 x2 x3 x4).2.2.1 = fun _ => 1#1) (i) : x2 i = (0 : EReal) :=
  zero_of_eq _ (congrFun h i)

/-- Under the precondition every weight of the gate is a real. -/
theorem real3 (h : (fn x0 x1 x2 x3 x4).2.2.2.1 = fun _ => 1#1) (i) : x3 i = ((EReal.toReal (x3 i) : ℝ) : EReal) :=
  real_of_abs_lt _ (congrFun h i)

/-- Under the precondition the gate's bias is zero. -/
theorem zero4 (h : (fn x0 x1 x2 x3 x4).2.2.2.2 = fun _ => 1#1) (i) : x4 i = (0 : EReal) :=
  zero_of_eq _ (congrFun h i)

end Cert.Pre_finite_without_bias.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent
public import proofs.«01_k».proof.Proof.Moe.Array
public import proofs.«01_k».proof.Proof.Moe.Reference
public import proofs.«01_k».proof.Proof.Moe.Pre

@[expose] public section

noncomputable section

namespace Cert.Proof

open Idealize.ShloMosaic Idealize.ShloMosaic.TcCoe Idealize.SL.Sem Cert.Moe

set_option maxRecDepth 16384

/-- The reference runs, leaves its arguments as they were, and ends with every semaphore at zero: it has none. -/
theorem reference_frame : Cert.quiescent_ReferenceIdeal :=
  fun m ρ _ =>
    (θ_run Cert.ReferenceIdeal.defs _ _).mono
      (fun r h => ⟨fun c => (h c).2, Idealize.ShloMosaic.sem_eq_zero_of_no_sems (by decide) r.2⟩)
      (Cert.ReferenceIdeal.Value.run (F := Ideal) m ρ)

/-- From the same arguments, within the precondition, the kernel and the reference end with the same array: in every
    row the experts' softmax rows, mixed by the softmax of the gate. -/
theorem algebraic : Cert.algebraic_KernelIdeal_ReferenceIdeal_pre_finite_without_bias
    (hPre_finite_without_bias := Cert.Pre_finite_without_bias.Moe.facts) := by
  letI := Cert.Pre_finite_without_bias.Moe.facts
  intro m ρ m' ρ' hpre hagree
  have real0 c := Cert.Pre_finite_without_bias.Moe.real0 (hpre c).1
  have real1 c := Cert.Pre_finite_without_bias.Moe.real1 (hpre c).2.1
  have zero2 c := Cert.Pre_finite_without_bias.Moe.zero2 (hpre c).2.2.1
  have real3 c := Cert.Pre_finite_without_bias.Moe.real3 (hpre c).2.2.2.1
  have zero4 c := Cert.Pre_finite_without_bias.Moe.zero4 (hpre c).2.2.2.2
  refine ⟨fun c => (Cert.KernelIdeal.Gen.dats m 0 c).arrAt 3 Cert.KernelIdeal.cfg0.N, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v31_eq m' c, a0, a1, a2, a3, a4]
  refine Eq.trans (funext fun y => ?_) (Cert.KernelIdeal.Moe.array_real m c (fun r k => real0 c (ix2 r k))
    (fun e k f => real1 c (ix3 e k f)) (fun k e => real3 c (ix2 k e))).symm
  idx_vars y
  exact Cert.ReferenceIdeal.Moe.result_real _ _ _ _ _ (fun r k => real0 c (ix2 r k)) (fun e k f => real1 c (ix3 e k f))
    (fun e f => zero2 c (ix2 e f)) (fun k e => real3 c (ix2 k e)) (fun e => zero4 c (ix1 e)) _ _

/-- Everything the certificate claims. -/
theorem claim : Cert.Claim :=
  ⟨Cert.Kernel.Gen.facts, Cert.KernelIdeal.Gen.facts, Cert.ReferenceIdeal.Gen.facts, Cert.Pre_finite_without_bias.Moe.facts,
    fun m ρ _ => Cert.Kernel.Gen.frame m ρ, fun m ρ _ => Cert.KernelIdeal.Gen.frame m ρ,
    fun m ρ _ => Cert.KernelIdeal.Gen.frame m ρ, fun m ρ _ => reference_frame m ρ trivial, fun m ρ _ => reference_frame m ρ trivial,
    trivial, algebraic⟩

end Cert.Proof

end
